-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v13)) (v1 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_v14) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_v19) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S16x1024x32 : Shape := ⟨3, ![16, 1024, 32]⟩
abbrev S8192x32 : Shape := ⟨2, ![8192, 32]⟩
abbrev S16384x32 : Shape := ⟨2, ![16384, 32]⟩
abbrev S_ : Shape := ⟨0, ![]⟩
abbrev S16384 : Shape := ⟨1, ![16384]⟩
abbrev S16384x1 : Shape := ⟨2, ![16384, 1]⟩
abbrev S8192 : Shape := ⟨1, ![8192]⟩
abbrev S8192x1 : Shape := ⟨2, ![8192, 1]⟩
abbrev S1x8192 : Shape := ⟨2, ![1, 8192]⟩
abbrev S64x8x256 : Shape := ⟨3, ![64, 8, 256]⟩
abbrev S256x32 : Shape := ⟨2, ![256, 32]⟩
abbrev S256x1 : Shape := ⟨2, ![256, 1]⟩
abbrev S1x8x256 : Shape := ⟨3, ![1, 8, 256]⟩
abbrev S4096x32 : Shape := ⟨2, ![4096, 32]⟩
abbrev S256x4096 : Shape := ⟨2, ![256, 4096]⟩
abbrev S1x4096 : Shape := ⟨2, ![1, 4096]⟩
abbrev S256 : Shape := ⟨1, ![256]⟩
abbrev S1x1x256 : Shape := ⟨3, ![1, 1, 256]⟩
abbrev S64x1x256 : Shape := ⟨3, ![64, 1, 256]⟩
abbrev S64x256 : Shape := ⟨2, ![64, 256]⟩
abbrev S1 : Shape := ⟨1, ![1]⟩
abbrev S1x1 : Shape := ⟨2, ![1, 1]⟩
abbrev S16x1024 : Shape := ⟨2, ![16, 1024]⟩

abbrev nBuf : Space → Nat
  | .hbm => 41
  | .vmem => 8
  | .smem => 0
  | _ => 0

abbrev bufTy : (tb : Table) → Fin (tcTables nBuf tb) → BufTy
  | .hbm, ⟨0, _⟩ => ⟨S16x1024x32, .f32⟩
  | .hbm, ⟨1, _⟩ => ⟨S8192x32, .f32⟩
  | .hbm, ⟨2, _⟩ => ⟨S16384x32, .f32⟩
  | .hbm, ⟨3, _⟩ => ⟨S16384x32, .f32⟩
  | .hbm, ⟨4, _⟩ => ⟨S_, .f32⟩
  | .hbm, ⟨5, _⟩ => ⟨S16384, .f32⟩
  | .hbm, ⟨6, _⟩ => ⟨S16384x1, .f32⟩
  | .hbm, ⟨7, _⟩ => ⟨S8192x32, .f32⟩
  | .hbm, ⟨8, _⟩ => ⟨S_, .f32⟩
  | .hbm, ⟨9, _⟩ => ⟨S8192, .f32⟩
  | .hbm, ⟨10, _⟩ => ⟨S8192x1, .f32⟩
  | .hbm, ⟨11, _⟩ => ⟨S1x8192, .f32⟩
  | .hbm, ⟨12, _⟩ => ⟨S64x8x256, .i32⟩
  | .hbm, ⟨13, _⟩ => ⟨S64x1x256, .i32⟩
  | .hbm, ⟨14, _⟩ => ⟨S64x256, .i32⟩
  | .hbm, ⟨15, _⟩ => ⟨S16384, .i32⟩
  | .hbm, ⟨16, _⟩ => ⟨S_, .i32⟩
  | .hbm, ⟨17, _⟩ => ⟨S16384, .i32⟩
  | .hbm, ⟨18, _⟩ => ⟨S16384, .i1⟩
  | .hbm, ⟨19, _⟩ => ⟨S_, .i32⟩
  | .hbm, ⟨20, _⟩ => ⟨S16384, .i32⟩
  | .hbm, ⟨21, _⟩ => ⟨S16384, .i32⟩
  | .hbm, ⟨22, _⟩ => ⟨S16384, .i32⟩
  | .hbm, ⟨23, _⟩ => ⟨S16384x1, .i32⟩
  | .hbm, ⟨24, _⟩ => ⟨S1, .i32⟩
  | .hbm, ⟨25, _⟩ => ⟨S_, .i32⟩
  | .hbm, ⟨26, _⟩ => ⟨S16384x1, .i32⟩
  | .hbm, ⟨27, _⟩ => ⟨S16384x1, .i1⟩
  | .hbm, ⟨28, _⟩ => ⟨S1x1, .i32⟩
  | .hbm, ⟨29, _⟩ => ⟨S16384x1, .i32⟩
  | .hbm, ⟨30, _⟩ => ⟨S16384x1, .i1⟩
  | .hbm, ⟨31, _⟩ => ⟨S16384x1, .i1⟩
  | .hbm, ⟨32, _⟩ => ⟨S_, .i1⟩
  | .hbm, ⟨33, _⟩ => ⟨S16384, .i1⟩
  | .hbm, ⟨34, _⟩ => ⟨S16384x32, .f32⟩
  | .hbm, ⟨35, _⟩ => ⟨S16384x32, .i1⟩
  | .hbm, ⟨36, _⟩ => ⟨S_, .f32⟩
  | .hbm, ⟨37, _⟩ => ⟨S16384x32, .f32⟩
  | .hbm, ⟨38, _⟩ => ⟨S16384x32, .f32⟩
  | .hbm, ⟨39, _⟩ => ⟨S16x1024x32, .f32⟩
  | .hbm, ⟨40, _⟩ => ⟨S16x1024, .i32⟩
  | .local _ .vmem, ⟨0, _⟩ => ⟨S256x32, .f32⟩
  | .local _ .vmem, ⟨1, _⟩ => ⟨S256x32, .f32⟩
  | .local _ .vmem, ⟨2, _⟩ => ⟨S256x1, .f32⟩
  | .local _ .vmem, ⟨3, _⟩ => ⟨S256x1, .f32⟩
  | .local _ .vmem, ⟨4, _⟩ => ⟨S8192x32, .f32⟩
  | .local _ .vmem, ⟨5, _⟩ => ⟨S1x8192, .f32⟩
  | .local _ .vmem, ⟨6, _⟩ => ⟨S1x8x256, .i32⟩
  | .local _ .vmem, ⟨7, _⟩ => ⟨S1x8x256, .i32⟩
  | _, _ => ⟨S16x1024x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_call0_c : Ref sig .tc := ⟨.hbm, 16, rfl⟩
abbrev main_call0_v0 : Ref sig .tc := ⟨.hbm, 17, rfl⟩
abbrev main_call0_v1 : Ref sig .tc := ⟨.hbm, 18, rfl⟩
abbrev main_call0_c_0 : Ref sig .tc := ⟨.hbm, 19, rfl⟩
abbrev main_call0_v2 : Ref sig .tc := ⟨.hbm, 20, rfl⟩
abbrev main_call0_v3 : Ref sig .tc := ⟨.hbm, 21, rfl⟩
abbrev main_call0_v4 : Ref sig .tc := ⟨.hbm, 22, rfl⟩
abbrev main_call0_v5 : Ref sig .tc := ⟨.hbm, 23, rfl⟩
abbrev main_call0_c_1 : Ref sig .tc := ⟨.hbm, 24, rfl⟩
abbrev main_call0_c_2 : Ref sig .tc := ⟨.hbm, 25, rfl⟩
abbrev main_call0_v6 : Ref sig .tc := ⟨.hbm, 26, rfl⟩
abbrev main_call0_v7 : Ref sig .tc := ⟨.hbm, 27, rfl⟩
abbrev main_call0_v8 : Ref sig .tc := ⟨.hbm, 28, rfl⟩
abbrev main_call0_v9 : Ref sig .tc := ⟨.hbm, 29, rfl⟩
abbrev main_call0_v10 : Ref sig .tc := ⟨.hbm, 30, rfl⟩
abbrev main_call0_v11 : Ref sig .tc := ⟨.hbm, 31, rfl⟩
abbrev main_call0_c_3 : Ref sig .tc := ⟨.hbm, 32, rfl⟩
abbrev main_call0_v12 : Ref sig .tc := ⟨.hbm, 33, rfl⟩
abbrev main_call0_v13 : Ref sig .tc := ⟨.hbm, 34, rfl⟩
abbrev main_call0_v14 : Ref sig .tc := ⟨.hbm, 35, rfl⟩
abbrev main_call0_cst : Ref sig .tc := ⟨.hbm, 36, rfl⟩
abbrev main_call0_v15 : Ref sig .tc := ⟨.hbm, 37, rfl⟩
abbrev main_v12 : Ref sig .tc := ⟨.hbm, 38, rfl⟩
abbrev main_v13 : Ref sig .tc := ⟨.hbm, 39, rfl⟩
abbrev main_v14 : Ref sig .tc := ⟨.hbm, 40, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S256x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S8192x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x8192 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x8x256 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ReferenceIdeal.lean ====
abbrev S16x1024x32 : Shape := ⟨3, ![16, 1024, 32]⟩
abbrev S8192x32 : Shape := ⟨2, ![8192, 32]⟩
abbrev S16384x32 : Shape := ⟨2, ![16384, 32]⟩
abbrev S_ : Shape := ⟨0, ![]⟩
abbrev S16384 : Shape := ⟨1, ![16384]⟩
abbrev S16384x1 : Shape := ⟨2, ![16384, 1]⟩
abbrev S32x8192 : Shape := ⟨2, ![32, 8192]⟩
abbrev S16384x8192 : Shape := ⟨2, ![16384, 8192]⟩
abbrev S8192 : Shape := ⟨1, ![8192]⟩
abbrev S8192x1 : Shape := ⟨2, ![8192, 1]⟩
abbrev S1x8192 : Shape := ⟨2, ![1, 8192]⟩
abbrev S1 : Shape := ⟨1, ![1]⟩
abbrev S1x1 : Shape := ⟨2, ![1, 1]⟩
abbrev S16x1024 : Shape := ⟨2, ![16, 1024]⟩

abbrev nBuf : Space → Nat
  | .hbm => 51
  | .vmem => 0
  | .smem => 0
  | _ => 0

abbrev bufTy : (tb : Table) → Fin (tcTables nBuf tb) → BufTy
  | .hbm, ⟨0, _⟩ => ⟨S16x1024x32, .f32⟩
  | .hbm, ⟨1, _⟩ => ⟨S8192x32, .f32⟩
  | .hbm, ⟨2, _⟩ => ⟨S16384x32, .f32⟩
  | .hbm, ⟨3, _⟩ => ⟨S16384x32, .f32⟩
  | .hbm, ⟨4, _⟩ => ⟨S_, .f32⟩
  | .hbm, ⟨5, _⟩ => ⟨S16384, .f32⟩
  | .hbm, ⟨6, _⟩ => ⟨S16384x1, .f32⟩
  | .hbm, ⟨7, _⟩ => ⟨S_, .f32⟩
  | .hbm, ⟨8, _⟩ => ⟨S16384x32, .f32⟩
  | .hbm, ⟨9, _⟩ => ⟨S16384x32, .f32⟩
  | .hbm, ⟨10, _⟩ => ⟨S32x8192, .f32⟩
  | .hbm, ⟨11, _⟩ => ⟨S16384x8192, .f32⟩
  | .hbm, ⟨12, _⟩ => ⟨S16384x8192, .f32⟩
  | .hbm, ⟨13, _⟩ => ⟨S16384x8192, .f32⟩
  | .hbm, ⟨14, _⟩ => ⟨S8192x32, .f32⟩
  | .hbm, ⟨15, _⟩ => ⟨S_, .f32⟩
  | .hbm, ⟨16, _⟩ => ⟨S8192, .f32⟩
  | .hbm, ⟨17, _⟩ => ⟨S8192x1, .f32⟩
  | .hbm, ⟨18, _⟩ => ⟨S1x8192, .f32⟩
  | .hbm, ⟨19, _⟩ => ⟨S16384x8192, .f32⟩
  | .hbm, ⟨20, _⟩ => ⟨S16384x8192, .f32⟩
  | .hbm, ⟨21, _⟩ => ⟨S16384x8192, .i32⟩
  | .hbm, ⟨22, _⟩ => ⟨S_, .f32⟩
  | .hbm, ⟨23, _⟩ => ⟨S_, .i32⟩
  | .hbm, ⟨24, _⟩ => ⟨S16384, .f32⟩
  | .hbm, ⟨25, _⟩ => ⟨S16384, .i32⟩
  | .hbm, ⟨26, _⟩ => ⟨S_, .i32⟩
  | .hbm, ⟨27, _⟩ => ⟨S16384, .i32⟩
  | .hbm, ⟨28, _⟩ => ⟨S16384, .i1⟩
  | .hbm, ⟨29, _⟩ => ⟨S_, .i32⟩
  | .hbm, ⟨30, _⟩ => ⟨S16384, .i32⟩
  | .hbm, ⟨31, _⟩ => ⟨S16384, .i32⟩
  | .hbm, ⟨32, _⟩ => ⟨S16384, .i32⟩
  | .hbm, ⟨33, _⟩ => ⟨S16384x1, .i32⟩
  | .hbm, ⟨34, _⟩ => ⟨S1, .i32⟩
  | .hbm, ⟨35, _⟩ => ⟨S_, .i32⟩
  | .hbm, ⟨36, _⟩ => ⟨S16384x1, .i32⟩
  | .hbm, ⟨37, _⟩ => ⟨S16384x1, .i1⟩
  | .hbm, ⟨38, _⟩ => ⟨S1x1, .i32⟩
  | .hbm, ⟨39, _⟩ => ⟨S16384x1, .i32⟩
  | .hbm, ⟨40, _⟩ => ⟨S16384x1, .i1⟩
  | .hbm, ⟨41, _⟩ => ⟨S16384x1, .i1⟩
  | .hbm, ⟨42, _⟩ => ⟨S_, .i1⟩
  | .hbm, ⟨43, _⟩ => ⟨S16384, .i1⟩
  | .hbm, ⟨44, _⟩ => ⟨S16384x32, .f32⟩
  | .hbm, ⟨45, _⟩ => ⟨S16384x32, .i1⟩
  | .hbm, ⟨46, _⟩ => ⟨S_, .f32⟩
  | .hbm, ⟨47, _⟩ => ⟨S16384x32, .f32⟩
  | .hbm, ⟨48, _⟩ => ⟨S16384x32, .f32⟩
  | .hbm, ⟨49, _⟩ => ⟨S16x1024x32, .f32⟩
  | .hbm, ⟨50, _⟩ => ⟨S16x1024, .i32⟩
  | _, _ => ⟨S16x1024x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst_1 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_call0_v0 : Ref sig .tc := ⟨.hbm, 21, rfl⟩
abbrev main_call0_cst : Ref sig .tc := ⟨.hbm, 22, rfl⟩
abbrev main_call0_c : Ref sig .tc := ⟨.hbm, 23, rfl⟩
abbrev main_call0_v1_0 : Ref sig .tc := ⟨.hbm, 24, rfl⟩
abbrev main_v16 : Ref sig .tc := ⟨.hbm, 25, rfl⟩
abbrev main_call1_c : Ref sig .tc := ⟨.hbm, 26, rfl⟩
abbrev main_call1_v0 : Ref sig .tc := ⟨.hbm, 27, rfl⟩
abbrev main_call1_v1 : Ref sig .tc := ⟨.hbm, 28, rfl⟩
abbrev main_call1_c_0 : Ref sig .tc := ⟨.hbm, 29, rfl⟩
abbrev main_call1_v2 : Ref sig .tc := ⟨.hbm, 30, rfl⟩
abbrev main_call1_v3 : Ref sig .tc := ⟨.hbm, 31, rfl⟩
abbrev main_call1_v4 : Ref sig .tc := ⟨.hbm, 32, rfl⟩
abbrev main_call1_v5 : Ref sig .tc := ⟨.hbm, 33, rfl⟩
abbrev main_call1_c_1 : Ref sig .tc := ⟨.hbm, 34, rfl⟩
abbrev main_call1_c_2 : Ref sig .tc := ⟨.hbm, 35, rfl⟩
abbrev main_call1_v6 : Ref sig .tc := ⟨.hbm, 36, rfl⟩
abbrev main_call1_v7 : Ref sig .tc := ⟨.hbm, 37, rfl⟩
abbrev main_call1_v8 : Ref sig .tc := ⟨.hbm, 38, rfl⟩
abbrev main_call1_v9 : Ref sig .tc := ⟨.hbm, 39, rfl⟩
abbrev main_call1_v10 : Ref sig .tc := ⟨.hbm, 40, rfl⟩
abbrev main_call1_v11 : Ref sig .tc := ⟨.hbm, 41, rfl⟩
abbrev main_call1_c_3 : Ref sig .tc := ⟨.hbm, 42, rfl⟩
abbrev main_call1_v12 : Ref sig .tc := ⟨.hbm, 43, rfl⟩
abbrev main_call1_v13 : Ref sig .tc := ⟨.hbm, 44, rfl⟩
abbrev main_call1_v14 : Ref sig .tc := ⟨.hbm, 45, rfl⟩
abbrev main_call1_cst : Ref sig .tc := ⟨.hbm, 46, rfl⟩
abbrev main_call1_v15 : Ref sig .tc := ⟨.hbm, 47, rfl⟩
abbrev main_v17 : Ref sig .tc := ⟨.hbm, 48, rfl⟩
abbrev main_v18 : Ref sig .tc := ⟨.hbm, 49, rfl⟩
abbrev main_v19 : Ref sig .tc := ⟨.hbm, 50, rfl⟩

abbrev nD : Nat := 1
abbrev τ : Topo := Topo.v7x

variable {F : FTy → Type} [FloatOps F]
-- ==== Proof.ArgMin.lean ====
module

public import Idealize.ShloMosaic.Lib.Pointwise
public import Idealize.ShloMosaic.Lib.WordArith
public import Idealize.ShloMosaic.Lib.SortNet.Extract

/-!
# The first index of the least entry

What "argmin" means for a row `d` of extended reals, and the arithmetic by which a row cut in two chunks
is searched: the least entry of each chunk, the least position holding it, and the comparison of the two.
No program is mentioned here.
-/

@[expose] public section

set_option maxRecDepth 16384

noncomputable section

namespace Cert.Proof.ArgMin

open Idealize.ShloMosaic Idealize.ShloMosaic.WordArith Idealize.ShloMosaic.SortNet

/-- `k` is the first index at which `d` is least: every other entry is greater, or equal and not earlier. -/
def First {n : Nat} (d : Fin n → EReal) (k : Fin n) : Prop := ∀ l, d k < d l ∨ d k = d l ∧ k ≤ l

theorem First.le {n : Nat} {d : Fin n → EReal} {k : Fin n} (h : First d k) (l : Fin n) : d k ≤ d l :=
  (h l).elim le_of_lt fun e => e.1.le

/-- A row that is not empty has such an index. -/
theorem exists_first {n : Nat} (hn : 0 < n) (d : Fin n → EReal) : ∃ k, First d k := by
  classical
  obtain ⟨k₀, -, hk₀⟩ := Finset.exists_min_image Finset.univ d ⟨⟨0, hn⟩, Finset.mem_univ _⟩
  obtain ⟨k, hk, hmin⟩ := Finset.exists_min_image (Finset.univ.filter fun l => d l = d k₀) (fun l => l)
    ⟨k₀, by simp⟩
  have hdk : d k = d k₀ := (Finset.mem_filter.1 hk).2
  refine ⟨k, fun l => ?_⟩
  rcases lt_or_eq_of_le (hdk ▸ hk₀ l (Finset.mem_univ l)) with h | h
  · exact .inl h
  · exact .inr ⟨h, hmin l (Finset.mem_filter.2 ⟨Finset.mem_univ _, by rw [← h, hdk]⟩)⟩

/-- That index, of a row of 8192 entries. -/
def first (d : Fin 8192 → EReal) : Fin 8192 := Classical.choose (exists_first (by norm_num) d)

theorem first_spec (d : Fin 8192 → EReal) : First d (first d) := Classical.choose_spec (exists_first (by norm_num) d)

theorem First.unique {n : Nat} {d : Fin n → EReal} {k k' : Fin n} (h : First d k) (h' : First d k') : k = k' := by
  rcases h k' with l | ⟨-, l⟩
  · exact absurd (h'.le k) (not_le.2 l)
  · rcases h' k with l' | ⟨-, l'⟩
    · exact absurd (h.le k') (not_le.2 l')
    · exact le_antisymm l l'

/-- A row cut in two: the first least index is the second part's when the second part's least entry is strictly
    the smaller, else the first part's. -/
theorem first_join {a b n : Nat} (hn : a + b = n) {d : Fin n → EReal} {ka : Fin a} {kb : Fin b}
    (ha : First (fun x : Fin a => d ⟨x, by omega⟩) ka) (hb : First (fun x : Fin b => d ⟨a + x, by omega⟩) kb) {k : Fin n}
    (hk : (k : Nat) = if d ⟨a + kb, by omega⟩ < d ⟨ka, by omega⟩ then a + kb else ka) : First d k := by
  intro l
  rw [Fin.le_def, hk]
  split at hk
  · rename_i hlt
    rw [if_pos hlt, show d k = d ⟨a + kb, by omega⟩ from congrArg d (Fin.ext hk)]
    by_cases hl : (l : Nat) < a
    · exact .inl (lt_of_lt_of_le hlt (ha.le ⟨l, hl⟩))
    · have e : d l = d ⟨a + (⟨l - a, by omega⟩ : Fin b), by simp; omega⟩ := congrArg d (Fin.ext (by simp; omega))
      rw [e]
      rcases hb ⟨l - a, by omega⟩ with h | ⟨h, h'⟩
      · exact .inl h
      · have h'' : (kb : Nat) ≤ l - a := h'
        exact .inr ⟨h, by omega⟩
  · rename_i hge
    rw [if_neg hge, show d k = d ⟨ka, by omega⟩ from congrArg d (Fin.ext hk)]
    by_cases hl : (l : Nat) < a
    · rcases ha ⟨l, hl⟩ with h | ⟨h, h'⟩
      · exact .inl h
      · exact .inr ⟨h, h'⟩
    · have e : d l = d ⟨a + (⟨l - a, by omega⟩ : Fin b), by simp; omega⟩ := congrArg d (Fin.ext (by simp; omega))
      have hle : d ⟨ka, by omega⟩ ≤ d l := le_trans (not_lt.1 hge) (e ▸ hb.le ⟨l - a, by omega⟩)
      rcases lt_or_eq_of_le hle with h | h
      · exact .inl h
      · exact .inr ⟨h, by have := ka.isLt; omega⟩

/-- The pattern of positive infinity reads as the greatest extended real. -/
theorem ofBits_inf : Ideal.ofBits .f32 0x7F800000#32 = ⊤ := by simp [Ideal.ofBits, Ideal.ieee]

/-- The least entry of a row, as a fold from the greatest extended real. -/
theorem fold_min {n : Nat} {d : Fin n → EReal} {k : Fin n} (h : First d k) :
    Finset.fold min (Ideal.ofBits .f32 0x7F800000#32) (fun x => d x) Finset.univ = d k := by
  rw [ofBits_inf]
  refine le_antisymm (Finset.fold_min_le (c := d k) |>.2 (.inr ⟨k, Finset.mem_univ _, le_rfl⟩)) ?_
  exact Finset.le_fold_min (c := d k) |>.2 ⟨le_top, fun x _ => h.le x⟩

/-- A fold of the signed minimum is the value that is attained and is least. -/
theorem fold_minsi {n : Nat} (f : Fin n → BitVec 32) (k : Fin n) (hf : ∀ x, (f k).toInt ≤ (f x).toInt) :
    Finset.fold IntOp.minsi 2147483647#32 f Finset.univ = f k := by
  apply BitVec.eq_of_toInt_eq
  rw [← Finset.fold_hom (op' := fun a b : Int => min a b) (m := BitVec.toInt) toInt_minsi]
  refine le_antisymm (Finset.fold_min_le (c := (f k).toInt) |>.2 (.inr ⟨k, Finset.mem_univ _, le_rfl⟩)) ?_
  refine Finset.le_fold_min (c := (f k).toInt) |>.2 ⟨?_, fun x _ => hf x⟩
  have := BitVec.toInt_lt (x := f k)
  have e : (2147483647#32 : BitVec 32).toInt = 2147483647 := by decide
  rw [e]; norm_num at this; omega

/-- The position search of one chunk: positions counted from `o`, entries that are not least read as `2 ^ 30`. -/
theorem fold_index {n o : Nat} (hn : o + n ≤ 2 ^ 30) {d : Fin n → EReal} {k : Fin n} (h : First d k)
    [∀ x, Decidable (d x = d k)] :
    Finset.fold IntOp.minsi 2147483647#32
      (fun x : Fin n => if d x = d k then IntOp.addi (BitVec.ofNat 32 ↑x) (BitVec.ofNat 32 o) else 1073741824#32) Finset.univ
      = BitVec.ofNat 32 (k + o) := by
  have word : ∀ x : Fin n, IntOp.addi (BitVec.ofNat 32 ↑x) (BitVec.ofNat 32 o) = BitVec.ofNat 32 (↑x + o) := fun x => by
    rw [IntOp.addi, BitVec.ofNat_add]
  have hk := k.isLt
  have big : (1073741824#32 : BitVec 32).toInt = 1073741824 := by decide
  rw [fold_minsi _ k, if_pos rfl, word]
  intro x
  have hx := x.isLt
  rw [if_pos rfl, word, toInt_ofNat_small _ (by omega)]
  split
  · rename_i e
    rw [word, toInt_ofNat_small _ (by omega)]
    rcases h x with l | ⟨-, l⟩
    · exact absurd e.symm (ne_of_lt l)
    · have : (k : Nat) ≤ x := l
      omega
  · rw [big]; omega

/-- A choice on a condition word. -/
theorem select_ofBool {α : Type} (b : Bool) (x y : α) : Scalar.select (BitVec.ofBool b) x y = if b then x else y := by
  cases b <;> rfl

/-- The condition under which a chunk's candidate replaces the one held: smaller, or equal and at an earlier position. -/
theorem wins (a b : EReal) (p q : BitVec 32) [Decidable (a < b)] [Decidable (a = b)] :
    IntOp.ori (BitVec.ofBool (decide (a < b))) (IntOp.andi (BitVec.ofBool (decide (a = b))) (IntOp.cmpi .slt p q))
      = BitVec.ofBool (decide (a < b ∨ a = b ∧ p.toInt < q.toInt)) := by
  have hc : IntOp.cmpi .slt p q = BitVec.ofBool (decide (p.toInt < q.toInt)) := by
    rw [IntOp.cmpi]; simp [BitVec.slt]
  rw [hc]
  by_cases h1 : a < b <;> by_cases h2 : a = b <;> by_cases h3 : p.toInt < q.toInt <;>
    simp [h1, h2, h3, IntOp.ori, IntOp.andi]

/-- The first chunk against the initial pair (positive infinity, position 0): the least entry held afterwards is the chunk's. -/
theorem first_value {T : EReal} (hT : T = ⊤) (m : EReal) (j : BitVec 32) [Decidable (m < T)]
    [Decidable (m = T)] :
    Scalar.select (IntOp.ori (BitVec.ofBool (decide (m < T)))
        (IntOp.andi (BitVec.ofBool (decide (m = T))) (IntOp.cmpi .slt j 0#32)))
      m T = m := by
  subst hT
  rw [wins, select_ofBool]
  split
  · rfl
  · rename_i h
    simp only [decide_eq_true_eq, not_or] at h
    exact (top_le_iff.1 (not_lt.1 h.1)).symm

/-- The position held after the first chunk is the chunk's: where the chunk does not win, every entry is positive infinity
    and its first position is 0. -/
theorem first_index {T : EReal} (hT : T = ⊤) {n : Nat} (hn : n ≤ 2 ^ 30) {d : Fin n → EReal} {k : Fin n} (h : First d k)
    [Decidable (d k < T)] [Decidable (d k = T)] :
    Scalar.select (IntOp.ori (BitVec.ofBool (decide (d k < T)))
        (IntOp.andi (BitVec.ofBool (decide (d k = T)))
          (IntOp.cmpi .slt (BitVec.ofNat 32 (k + 0)) 0#32)))
      (BitVec.ofNat 32 (k + 0)) 0#32 = BitVec.ofNat 32 k := by
  subst hT
  rw [wins, select_ofBool, Nat.add_zero]
  split
  · rfl
  · rename_i hw
    simp only [decide_eq_true_eq, not_or] at hw
    have htop : d k = ⊤ := top_le_iff.1 (not_lt.1 hw.1)
    have hk := k.isLt
    rcases h ⟨0, by omega⟩ with l | ⟨-, l⟩
    · exact absurd (htop ▸ l) (not_top_lt)
    · have : (k : Nat) ≤ 0 := l
      rw [Nat.le_zero.1 this]

/-- The second chunk against the first: it wins exactly when its least entry is strictly smaller, its positions being later. -/
theorem second_index {o i j : Nat} (ho : o + j ≤ 2 ^ 30) (hi : i < o) (a b : EReal) [Decidable (b < a)] [Decidable (b = a)] :
    Scalar.select (IntOp.ori (BitVec.ofBool (decide (b < a)))
        (IntOp.andi (BitVec.ofBool (decide (b = a)))
          (IntOp.cmpi .slt (BitVec.ofNat 32 (j + o)) (BitVec.ofNat 32 i))))
      (BitVec.ofNat 32 (j + o)) (BitVec.ofNat 32 i) = BitVec.ofNat 32 (if b < a then o + j else i) := by
  rw [wins, select_ofBool, toInt_ofNat_small _ (by omega), toInt_ofNat_small _ (by omega)]
  have : ¬ ((j + o : Nat) : Int) < (i : Nat) := by omega
  by_cases h : b < a <;> simp [h, this, Nat.add_comm]
  omega

/-- The squared distance of token `t` from row `l` of the codebook, as both programs write it. -/
def sqDist (x : Fin 16384 → Fin 32 → EReal) (w : Fin 8192 → Fin 32 → EReal) (t : Fin 16384) (l : Fin 8192) : EReal :=
  ∑ k, x t k * x t k - ∑ k, Ideal.ofBits .f32 0x40000000#32 * x t k * w l k + ∑ k, w l k * w l k

end Cert.Proof.ArgMin

end
-- ==== Proof.Payload.lean ====
module

public import proofs.«01_k».proof.Defs
public import proofs.«01_k».proof.Proof.Gen.KernelIdeal.Skeleton
public import proofs.«01_k».proof.Proof.ArgMin

/-!
# What the kernel's body stores

The body searches 8192 distances of each of its 256 tokens, in two chunks of 4096. Read at a token, the word it
stores is the first index of the least distance.
-/

@[expose] public section

set_option maxRecDepth 16384

noncomputable section

namespace Cert.Proof.Payload

open Idealize.ShloMosaic Idealize.ShloMosaic.TcCoe Idealize.SL.Sem
open Cert.KernelIdeal Cert.KernelIdeal.Gen
open Cert.Proof.ArgMin

/-! ## A reduction along the rows of a matrix, read at a row -/

theorem rowMin {a b : Nat} (v : FVec Ideal ⟨2, ![a, b]⟩ .f32) (h : (⟨2, ![a, b]⟩ : Shape).Reduces [1] ⟨1, ![a]⟩) (hφ hacc)
    (r : Fin a) : multiReduction .minimumf [1] ⟨1, ![a]⟩ v 0x7F800000#32 h hφ hacc (ix1 r)
      = Finset.fold min (Ideal.ofBits .f32 0x7F800000#32) (fun x => v (ix2 r x)) Finset.univ := by
  rw [multiReduction_minimumf_eq_fold]
  exact Shape.Reduces.fold_fiber_r2_a1 h (ix1 r) _ _ _

theorem rowMinsi {a b : Nat} (v : IVec ⟨2, ![a, b]⟩ 32) (h : (⟨2, ![a, b]⟩ : Shape).Reduces [1] ⟨1, ![a]⟩) (hacc)
    (r : Fin a) : multiReductionI .minsi [1] ⟨1, ![a]⟩ v 2147483647#32 h hacc (ix1 r)
      = Finset.fold IntOp.minsi 2147483647#32 (fun x => v (ix2 r x)) Finset.univ := by
  rw [multiReductionI_eq_fold]
  exact Shape.Reduces.fold_fiber_r2_a1 h (ix1 r) _ _ _

theorem minF (v : FVec Ideal S256x4096 .f32) (h hφ hacc) (r : Fin 256) :
    multiReduction .minimumf [1] S256 v 0x7F800000#32 h hφ hacc (ix1 r)
      = Finset.fold min (Ideal.ofBits .f32 0x7F800000#32) (fun x => v (ix2 r x)) Finset.univ := rowMin v h hφ hacc r
theorem minI (v : IVec S256x4096 32) (h hacc) (r : Fin 256) :
    multiReductionI .minsi [1] S256 v 2147483647#32 h hacc (ix1 r)
      = Finset.fold IntOp.minsi 2147483647#32 (fun x => v (ix2 r x)) Finset.univ := rowMinsi v h hacc r
theorem colF (u : FVec Ideal S256 .f32) (h) (r : Fin 256) : shapeCast S256x1 u h (ix2 r 0) = u (ix1 r) := by pointwise
theorem colI (u : IVec S256 32) (h) (r : Fin 256) : shapeCast S256x1 u h (ix2 r 0) = u (ix1 r) := by pointwise

/-- The word of one code in the position search: its position from `o` on where its distance is the row's least, else `2 ^ 30`. -/
theorem cand (v : FVec Ideal S256x4096 .f32) (m : FVec Ideal S256x1 .f32) (o : BitVec 32) (hb hi) (r : Fin 256) (x : Fin 4096) :
    select (cmpf .oeq v (broadcastTo S256x4096 m hb)) (addi (iota .tc S256x4096 32 [1] hi) (broadcast S256x4096 o))
        (broadcast S256x4096 1073741824#32) (ix2 r x)
      = if v (ix2 r x) = m (ix2 r 0) then IntOp.addi (BitVec.ofNat 32 ↑x) o else 1073741824#32 := by
  pointwise

/-- The comparison of the second chunk with the first and the layout of the result, over the second chunk's reductions. -/
theorem outer (a : FVec Ideal S256x1 .f32) (p : IVec S256x1 32) (m : FVec Ideal S256x1 .f32) (j : IVec S256x1 32) (h₁ h₂ h₃)
    (s : Fin 8) (r : Fin 256) {M : EReal} {J P : BitVec 32} (hm : m (ix2 r 0) = M) (hj : j (ix2 r 0) = J) (hp : p (ix2 r 0) = P) :
    broadcastTo S1x8x256 (shapeCast S1x1x256 (shapeCast S1x1x256
        (select (ori (cmpf .olt m a) (andi (cmpf .oeq m a) (cmpi .slt j p))) j p) h₁) h₂) h₃ (ix3 0 s r)
      = Scalar.select (IntOp.ori (BitVec.ofBool (decide (M < a (ix2 r 0))))
          (IntOp.andi (BitVec.ofBool (decide (M = a (ix2 r 0)))) (IntOp.cmpi .slt J P))) J P := by
  subst hm hj hp
  pointwise

/-- The sum of the second chunk's two parts. -/
theorem addRow (v : FVec Ideal S256x4096 .f32) (n : Vec Ideal S1x4096 .f32) (h₁ h₂) (r : Fin 256) (x : Fin 4096) :
    addf v (broadcastTo S256x4096 (shapeCast S1x4096 n h₁) h₂) (ix2 r x) = (show EReal from v (ix2 r x)) + (show EReal from n (ix2 0 x)) := by
  pointwise

/-! ## The two chunks -/

section
variable (x0 : Vec Ideal S256x32 .f32) (x1 : Vec Ideal S256x1 .f32) (w : Vec Ideal S4096x32 .f32) (n : Vec Ideal S1x4096 .f32)
  (r : Fin 256)

/-- The distance of a token of the block to a code of one chunk: the token's square norm, less twice the product, plus the
    code's square norm. -/
def chunk (l : Fin 4096) : EReal :=
  x1 (ix2 r 0) - ∑ x, Ideal.ofBits FTy.f32 1073741824#32 * x0 (ix2 r x) * w (ix2 l x) + n (ix2 0 l)

theorem pay6 (l : Fin 4096) : k0_pay6 x0 x1 w n (ix2 r l) = chunk x0 x1 w n r l := by
  pointwise [k0_pay6, k0_pay2, k0_pay3]
  rfl

theorem pay12 (l : Fin 4096) : (show EReal from k0_pay12 x0 x1 w (ix2 r l)) + (show EReal from n (ix2 0 l)) = chunk x0 x1 w n r l := by
  pointwise [k0_pay12, k0_pay2, k0_pay3]
  rfl

variable {x0 x1 w n r} {k : Fin 4096}

theorem pay7 (h : First (chunk x0 x1 w n r) k) : k0_pay7 x0 x1 w n (ix2 r 0) = chunk x0 x1 w n r k := by
  unfold k0_pay7
  dsimp only
  rw [colF]
  refine (minF _ _ _ _ r).trans ?_
  simp only [pay6]
  exact fold_min h

theorem pay8 (h : First (chunk x0 x1 w n r) k) : k0_pay8 x0 x1 w n (ix2 r 0) = BitVec.ofNat 32 (k + 0) := by
  unfold k0_pay8
  dsimp only
  rw [colI]
  refine (minI _ _ _ r).trans ((Finset.fold_congr fun x _ => cand _ _ _ _ _ r x).trans ?_)
  simp only [pay6, pay7 h]
  exact fold_index (o := 0) (by norm_num) h

theorem cond (m : FVec Ideal S256x1 .f32) (j : IVec S256x1 32) (r : Fin 256) :
    ori (cmpf .olt m (broadcast S256x1 (Scalar.ofBits .f32 0x7F800000#32)))
        (andi (cmpf .oeq m (broadcast S256x1 (Scalar.ofBits .f32 0x7F800000#32))) (cmpi .slt j (broadcast S256x1 0#32))) (ix2 r 0)
      = IntOp.ori (BitVec.ofBool (decide (m (ix2 r 0) < Ideal.ofBits .f32 0x7F800000#32)))
        (IntOp.andi (BitVec.ofBool (decide (m (ix2 r 0) = Ideal.ofBits .f32 0x7F800000#32))) (IntOp.cmpi .slt (j (ix2 r 0)) 0#32)) := by
  pointwise

theorem pay9 : k0_pay9 x0 x1 w n (ix2 r 0)
    = IntOp.ori (BitVec.ofBool (decide (k0_pay7 x0 x1 w n (ix2 r 0) < Ideal.ofBits .f32 0x7F800000#32)))
        (IntOp.andi (BitVec.ofBool (decide (k0_pay7 x0 x1 w n (ix2 r 0) = Ideal.ofBits .f32 0x7F800000#32)))
          (IntOp.cmpi .slt (k0_pay8 x0 x1 w n (ix2 r 0)) 0#32)) :=
  cond (k0_pay7 x0 x1 w n) (k0_pay8 x0 x1 w n) r

theorem pickI (c : IVec S256x1 1) (j : IVec S256x1 32) (b : BitVec 32) (r : Fin 256) :
    select c j (broadcast S256x1 b) (ix2 r 0) = Scalar.select (c (ix2 r 0)) (j (ix2 r 0)) b := rfl

theorem pickF (c : IVec S256x1 1) (m : FVec Ideal S256x1 .f32) (h₁ h₂) (r : Fin 256) :
    select c (extf .f32 (truncf .bf16 m h₁) h₂) (broadcast S256x1 (Scalar.ofBits (F := Ideal) .f32 0x7F800000#32)) (ix2 r 0)
      = Scalar.select (c (ix2 r 0)) (m (ix2 r 0)) (Ideal.ofBits .f32 0x7F800000#32) := rfl

theorem pay10 (h : First (chunk x0 x1 w n r) k) : k0_pay10 x0 x1 w n (ix2 r 0) = chunk x0 x1 w n r k := by
  refine (pickF (k0_pay9 x0 x1 w n) (k0_pay7 x0 x1 w n) _ _ r).trans ?_
  rw [pay9, pay7 h]
  exact first_value ofBits_inf _ _

theorem pay11 (h : First (chunk x0 x1 w n r) k) : k0_pay11 x0 x1 w n (ix2 r 0) = BitVec.ofNat 32 k := by
  refine (pickI (k0_pay9 x0 x1 w n) (k0_pay8 x0 x1 w n) 0#32 r).trans ?_
  rw [pay9, pay7 h, pay8 h]
  exact first_index ofBits_inf (by norm_num) h

end

/-- The second chunk, from what the first leaves: the least entry `a`, at position `i`. -/
theorem pay1 (x0 : Vec Ideal S256x32 .f32) (x1 : Vec Ideal S256x1 .f32) (w : Vec Ideal S4096x32 .f32) (n : Vec Ideal S1x4096 .f32)
    (a : FVec Ideal S256x1 .f32) (p : IVec S256x1 32) (s : Fin 8) (r : Fin 256) {k : Fin 4096} {i : Nat}
    (h : First (chunk x0 x1 w n r) k) (hp : p (ix2 r 0) = BitVec.ofNat 32 i) (hi : i < 4096) :
    k0_pay1 a p (k0_pay12 x0 x1 w) n (ix3 0 s r)
      = BitVec.ofNat 32 (if chunk x0 x1 w n r k < a (ix2 r 0) then 4096 + k else i) := by
  have hm : ∀ h₁ h₂ h₃ hφ hacc h₄, shapeCast S256x1 (multiReduction .minimumf [1] S256
      (addf (k0_pay12 x0 x1 w) (broadcastTo S256x4096 (shapeCast S1x4096 n h₁) h₂)) 0x7F800000#32 h₃ hφ hacc) h₄ (ix2 r 0)
      = chunk x0 x1 w n r k := fun _ _ _ _ _ _ => by
    rw [colF]
    refine (minF _ _ _ _ r).trans ?_
    simp only [addRow, pay12]
    exact fold_min h
  unfold k0_pay1
  dsimp only
  generalize hv : k0_pay12 x0 x1 w = v at hm ⊢
  have hm' := hm shapeCasts_S1x4096_S1x4096 broadcasts_S1x4096_S256x4096 reduces_S256x4096_S256 (.inl rfl) rfl shapeCasts_S256_S256x1
  have ha : ∀ x : Fin 4096, addf v (broadcastTo S256x4096 (shapeCast S1x4096 n shapeCasts_S1x4096_S1x4096)
      broadcasts_S1x4096_S256x4096) (ix2 r x) = chunk x0 x1 w n r x := fun x => by
    rw [addRow, ← hv, pay12]
  generalize addf v (broadcastTo S256x4096 (shapeCast S1x4096 n shapeCasts_S1x4096_S1x4096) broadcasts_S1x4096_S256x4096) = u
    at hm' ha ⊢
  have hj : ∀ h₁ h₂ h₃ h₄, shapeCast S256x1 (multiReductionI .minsi [1] S256
      (select (cmpf .oeq u (broadcastTo S256x4096 (shapeCast S256x1 (multiReduction .minimumf [1] S256 u 0x7F800000#32
          reduces_S256x4096_S256 (.inl rfl) rfl) shapeCasts_S256_S256x1) h₁))
        (addi (iota .tc S256x4096 32 [1] h₂) (broadcast S256x4096 4096#32)) (broadcast S256x4096 1073741824#32))
      2147483647#32 h₃ rfl) h₄ (ix2 r 0) = BitVec.ofNat 32 (k + 4096) := fun _ _ _ _ => by
    rw [colI]
    refine (minI _ _ _ r).trans ((Finset.fold_congr fun x _ => cand _ _ _ _ _ r x).trans ?_)
    simp only [ha, hm']
    exact fold_index (o := 4096) (by norm_num) h
  refine (outer a p _ _ _ _ _ s r hm' (hj _ _ _ _) hp).trans ?_
  exact second_index (by have := k.isLt; omega) hi _ _

/-- Both chunks: over the 8192 distances `d` of a token, of which the chunks read the first and the second half, the word
    stored is the first index of the least. -/
theorem stored (x0 : Vec Ideal S256x32 .f32) (x1 : Vec Ideal S256x1 .f32) (wA wB : Vec Ideal S4096x32 .f32)
    (nA nB : Vec Ideal S1x4096 .f32) (s : Fin 8) (r : Fin 256) (d : Fin 8192 → EReal)
    (hA : ∀ l : Fin 4096, chunk x0 x1 wA nA r l = d ⟨l, by omega⟩)
    (hB : ∀ l : Fin 4096, chunk x0 x1 wB nB r l = d ⟨4096 + l, by omega⟩) :
    k0_pay1 (k0_pay10 x0 x1 wA nA) (k0_pay11 x0 x1 wA nA) (k0_pay12 x0 x1 wB) nB (ix3 0 s r) = BitVec.ofNat 32 (first d) := by
  obtain ⟨ka, ha⟩ := exists_first (by norm_num) (chunk x0 x1 wA nA r)
  obtain ⟨kb, hb⟩ := exists_first (by norm_num) (chunk x0 x1 wB nB r)
  rw [pay1 x0 x1 wB nB _ _ s r hb (pay11 ha) ka.isLt, pay10 ha, hA, hB]
  rw [funext hA] at ha
  rw [funext hB] at hb
  have hk : First d ⟨if d ⟨4096 + kb, by omega⟩ < d ⟨ka, by omega⟩ then 4096 + kb else ka, by split <;> omega⟩ :=
    first_join (a := 4096) (b := 4096) rfl ha hb rfl
  rw [(first_spec d).unique hk]

end Cert.Proof.Payload

end
-- ==== Proof.Array.lean ====
module

public import proofs.«01_k».proof.Proof.Gen.KernelIdeal.Frame
public import proofs.«01_k».proof.Proof.Payload
public import Idealize.ShloMosaic.Lib.Pipeline.ValueKit

/-!
# What the kernel's output array holds

Block `i` of the output is written at grid point `i`, from the rows `256 i … 256 i + 255` of the tokens. Every word
of the array is the first index of the least distance of its token.
-/

@[expose] public section

set_option maxRecDepth 16384

noncomputable section

namespace Cert.Proof.Array

open Idealize.ShloMosaic Idealize.ShloMosaic.TcCoe Idealize.SL.Sem
open Cert.KernelIdeal Cert.KernelIdeal.Gen
open Cert.Proof.ArgMin Cert.Proof.Payload

/-- The distance of token `t` to code `l`, over whole arrays. -/
def dist (X : FVec Ideal S16384x32 .f32) (xn : FVec Ideal S16384x1 .f32) (W : FVec Ideal S8192x32 .f32) (wn : FVec Ideal S1x8192 .f32)
    (t : Fin 16384) (l : Fin 8192) : EReal :=
  xn (ix2 t 0) - ∑ x, Ideal.ofBits FTy.f32 1073741824#32 * X (ix2 t x) * W (ix2 l x) + wn (ix2 0 l)

/-- The word of every token, laid out as the kernel's output. -/
def words (X : FVec Ideal S16384x32 .f32) (xn : FVec Ideal S16384x1 .f32) (W : FVec Ideal S8192x32 .f32) (wn : FVec Ideal S1x8192 .f32) :
    IVec S64x8x256 32 :=
  fun i => BitVec.ofNat 32 (first (dist X xn W wn ⟨(i 0).val * 256 + (i 2).val, by
    have h0 : (i 0).val < 64 := (i 0).isLt
    have h2 : (i 2).val < 256 := (i 2).isLt
    omega⟩))

variable (m : (ℓ : Loc nD τ sig) → Buf (Elt Ideal) ℓ)

/-! ## The windows' blocks at coordinates -/

theorem index0 : ∀ t : Fin cfg0.N, win0_0.index t = ![t.val, 0] := (by decide +kernel : ∀ t : Fin grid0.N, _)
theorem index1 : ∀ t : Fin cfg0.N, win0_1.index t = ![t.val, 0] := (by decide +kernel : ∀ t : Fin grid0.N, _)
theorem index2 : ∀ t : Fin cfg0.N, win0_2.index t = ![0, 0] := (by decide +kernel : ∀ t : Fin grid0.N, _)
theorem index3 : ∀ t : Fin cfg0.N, win0_3.index t = ![0, 0] := (by decide +kernel : ∀ t : Fin grid0.N, _)
theorem index4 : ∀ t : Fin cfg0.N, win0_4.index t = ![t.val, 0, 0] := (by decide +kernel : ∀ t : Fin grid0.N, _)

/-- Token `r` of the block of grid point `t`. -/
def token (t : Fin cfg0.N) (r : Fin 256) : Fin 16384 := ⟨t.val * 256 + r.val, by
  have h : t.val < 64 := N_0 ▸ t.isLt
  omega⟩

theorem blk0 (c : Dev nD) (t : Fin cfg0.N) (r : Fin 256) (x : Fin 32) :
    iblk m c 0 t (ix2 r x : S256x32.Idx) = V m c main_v0 (ix2 (token t r) x : S16384x32.Idx) := by
  blk_simp [iblk]
  refine congrArg _ ?_
  blk_ext [index0, token]

theorem blk1 (c : Dev nD) (t : Fin cfg0.N) (r : Fin 256) :
    iblk m c 1 t (ix2 r 0 : S256x1.Idx) = V m c main_v3 (ix2 (token t r) 0 : S16384x1.Idx) := by
  blk_simp [iblk]
  refine congrArg _ ?_
  blk_ext [index1, token]

theorem blk2 (c : Dev nD) (t : Fin cfg0.N) (l : Fin 8192) (x : Fin 32) :
    iblk m c 2 t (ix2 l x : S8192x32.Idx) = V m c main_arg1 (ix2 l x : S8192x32.Idx) := by
  blk_simp [iblk]
  refine congrArg _ ?_
  blk_ext [index2]

theorem blk3 (c : Dev nD) (t : Fin cfg0.N) (l : Fin 8192) :
    iblk m c 3 t (ix2 0 l : S1x8192.Idx) = V m c main_v7 (ix2 0 l : S1x8192.Idx) := by
  blk_simp [iblk]
  refine congrArg _ ?_
  blk_ext [index3]

theorem final (c : Dev nD) :
    (dats m 0 c).arrAt 4 cfg0.N = words (V m c main_v0) (V m c main_v3) (V m c main_arg1) (V m c main_v7) := by
  refine (dats m 0 c).arrAt_eq_of_covers 4 _ (by decide +kernel) fun t hf y => ?_
  blk_simp
  rw [after0_4]
  frame_out
  idx_vars y
  have h0 := blk0 m c t
  have h1 := blk1 m c t
  have h2 := blk2 m c t
  have h3 := blk3 m c t
  obtain rfl : y0 = 0 := Subsingleton.elim _ _
  have e : words (V m c main_v0) (V m c main_v3) (V m c main_arg1) (V m c main_v7)
      (((View.whole main_v8).slice (win0_4.rect t)).emb (ix3 0 y1 y2))
      = BitVec.ofNat 32 (first (dist (V m c main_v0) (V m c main_v3) (V m c main_arg1) (V m c main_v7) (token t y2))) := by
    refine congrArg (fun k : Fin 16384 => BitVec.ofNat 32
      (first (dist (V m c main_v0) (V m c main_v3) (V m c main_arg1) (V m c main_v7) k)).val) (Fin.ext ?_)
    blk_simp [index4, token]
    show (t.val + 0) * 256 + y2.val = t.val * 256 + y2.val
    omega
  rw [e]
  refine stored _ _ _ _ _ _ y1 y2 _ (fun l => ?_) fun l => ?_
  · unfold chunk dist
    pointwise [h0, h1, h2, h3]
  · unfold chunk dist
    pointwise [h0, h1, h2, h3]

end Cert.Proof.Array

end
-- ==== Proof.Tail.lean ====
module

public import proofs.«01_k».proof.Proof.Array
public import Idealize.ShloMosaic.Lib.Claim
public import Idealize.ShloMosaic.Lib.StableHlo.RunRead

/-!
# What the host operations after the kernel read

They take row 0 of every block of the kernel's output, which is one index per token, and gather the codebook's rows
at these indices. This module says what the two arrays they read hold, and what the index of a token is.
-/

@[expose] public section

set_option maxRecDepth 16384

noncomputable section

namespace Cert.Proof.Tail

open Idealize.ShloMosaic Idealize.ShloMosaic.TcCoe Idealize.SL.Sem
open Cert.KernelIdeal Cert.KernelIdeal.Gen
open Cert.Proof.ArgMin Cert.Proof.Array

/-- One index per token: the first one of the least distance. -/
def tokens (X : FVec Ideal S16384x32 .f32) (xn : FVec Ideal S16384x1 .f32) (W : FVec Ideal S8192x32 .f32)
    (wn : FVec Ideal S1x8192 .f32) : IVec S16384 32 :=
  fun i => BitVec.ofNat 32 (first (dist X xn W wn (i 0)))

/-- Row 0 of every block of the output, flattened, is the tokens' indices in order. -/
theorem flatten (X : FVec Ideal S16384x32 .f32) (xn : FVec Ideal S16384x1 .f32) (W : FVec Ideal S8192x32 .f32)
    (wn : FVec Ideal S1x8192 .f32) :
    shapeCast S16384 (fun i => shapeCast S64x256
        (extractStridedSlice S64x1x256 ![0, 0, 0] (words X xn W wn) slices_S64x8x256_S64x1x256_0_0_0)
        shapeCasts_S64x1x256_S64x256 i) shapeCasts_S64x256_S16384
      = tokens X xn W wn := by
  funext i
  idx_vars i
  pointwise [words, tokens]
  rw [show (⟨i0.val / 256 * 256 + i0.val % 256, by omega⟩ : Fin 16384) = i0 from Fin.ext (by simp only []; omega)]

variable (m : (ℓ : Loc nD τ sig) → Buf (Elt Ideal) ℓ)

theorem arr_inj : Function.Injective (Pipeline.arrRef (cfgs 0).spec) := by decide

/-- The kernel leaves in its output what its last block completes. -/
theorem left_out (c : Dev nD) :
    Pipeline.withArrays (cfgs 0).spec c (V0 m c) (fun w => (dats m 0 c).arrAt w (cfgs 0).N) (Proc.devRef .tc main_v8)
      = words (V m c main_v0) (V m c main_v3) (V m c main_arg1) (V m c main_v7) :=
  (Pipeline.withArrays_arr _ arr_inj c _ _ 4).trans (final m c)

/-- The kernel leaves the codebook as launched. -/
theorem left_codebook (c : Dev nD) :
    Pipeline.withArrays (cfgs 0).spec c (V0 m c) (fun w => (dats m 0 c).arrAt w (cfgs 0).N) (Proc.devRef .tc main_arg1) = m ((c : Thread nD τ).loc main_arg1) :=
  (Pipeline.withArrays_arr _ arr_inj c _ _ 2).trans
    (((dats m 0 c).arrAt_in 2 rfl _).trans (V_main_arg1 m c))

end Cert.Proof.Tail

end
-- ==== Proof.Entry.lean ====
module

public import proofs.«01_k».proof.Proof.Tail

@[expose] public section

set_option maxRecDepth 16384

noncomputable section

namespace Cert.Proof.Entry

open Idealize.ShloMosaic Idealize.ShloMosaic.TcCoe Idealize.SL.Sem
open Cert.KernelIdeal Cert.KernelIdeal.Gen
open Cert.Proof.ArgMin Cert.Proof.Array Cert.Proof.Tail

/-- The squared lengths of the tokens, one per row. -/
def rowNorm (X : FVec Ideal S16384x32 .f32) : FVec Ideal S16384x1 .f32 :=
  broadcastInDim S16384x1 ![0] bcast_S16384_S16384x1_0
    (Host.reduceAdd (mulf X X) (constant S_ .f32 0x00000000#32) reducesTo_S16384x32_S16384_d1 h_S_)

/-- The squared lengths of the codebook's rows, one per column. -/
def codeNorm (W : FVec Ideal S8192x32 .f32) : FVec Ideal S1x8192 .f32 :=
  transpose S1x8192 [1, 0] (broadcastInDim S8192x1 ![0] bcast_S8192_S8192x1_0
    (Host.reduceAdd (mulf W W) (constant S_ .f32 0x00000000#32) reducesTo_S8192x32_S8192_d1 h_S_))
    transposes_S8192x1_S1x8192_1_0

theorem dist_plain (X : FVec Ideal S16384x32 .f32) (W : FVec Ideal S8192x32 .f32) (t : Fin 16384) (l : Fin 8192) :
    dist X (rowNorm X) W (codeNorm W) t l
      = sqDist (fun t k => X (ix2 t k)) (fun l k => W (ix2 l k)) t l := by
  unfold Array.dist
  pointwise [rowNorm, codeNorm, sqDist]

variable (m : (ℓ : Loc nD τ sig) → Buf (Elt Ideal) ℓ)

/-- The tokens, as the host hands them to the kernel. -/
def X (c : Dev nD) : FVec Ideal S16384x32 .f32 :=
  shapeCast S16384x32 (m ((c : Thread nD τ).loc main_arg0)) shapeCasts_S16x1024x32_S16384x32

theorem read_v0 (c : Dev nD) : V m c main_v0 = X m c := by
  entry_read
  simp only [hostOps0, List.flatten_cons, List.flatten_nil, List.append_nil, List.cons_append, List.nil_append]
  after_results_simp
  rfl

theorem read_v3 (c : Dev nD) : V m c main_v3 = rowNorm (X m c) := by
  entry_read
  simp only [hostOps0, List.flatten_cons, List.flatten_nil, List.append_nil, List.cons_append, List.nil_append]
  after_results_simp
  rfl

theorem read_v7 (c : Dev nD) : V m c main_v7 = codeNorm (m ((c : Thread nD τ).loc main_arg1)) := by
  entry_read
  simp only [hostOps0, List.flatten_cons, List.flatten_nil, List.append_nil, List.cons_append, List.nil_append]
  after_results_simp
  rfl

/-- The kernel's indices, from the arguments: the first row of the codebook at the least distance. -/
theorem tokens_entry (c : Dev nD) :
    tokens (V m c main_v0) (V m c main_v3) (V m c main_arg1) (V m c main_v7)
      = fun i => BitVec.ofNat 32 (first (sqDist (fun t k => X m c (ix2 t k))
          (fun l k => (m ((c : Thread nD τ).loc main_arg1) : FVec Ideal S8192x32 .f32) (ix2 l k)) (i 0))) := by
  rw [read_v0, read_v3, read_v7, V_main_arg1]
  funext i
  unfold tokens
  rw [funext (dist_plain (X m c) (m ((c : Thread nD τ).loc main_arg1)) (i 0))]

end Cert.Proof.Entry

end
-- ==== Proof.Reference.lean ====
module

public import proofs.«01_k».proof.Defs
public import proofs.«01_k».proof.Proof.Gen.ReferenceIdeal
public import proofs.«01_k».proof.Proof.ArgMin

/-!
# The reference's argmin

The reference folds a comparison of (value, index) pairs over each row of its matrix of distances. The comparison keeps
the smaller value and, of two equal ones, the smaller index, so the fold ends at the first index of the least entry.
-/

@[expose] public section

set_option maxRecDepth 16384

noncomputable section

namespace Cert.Proof.Reference

open Idealize.ShloMosaic Idealize.ShloMosaic.TcCoe Idealize.SL.Sem Idealize.ShloMosaic.WordArith
open Cert.ReferenceIdeal Cert.ReferenceIdeal.Gen
open Cert.Proof.ArgMin

/-- One step of the fold, on indices below `2 ^ 31`. -/
theorem step (a b : EReal) {i j : Nat} (hi : i < 2 ^ 31) (hj : j < 2 ^ 31) :
    reducer_argmin_f32_i32 (F := Ideal) (a, BitVec.ofNat 32 i) (b, BitVec.ofNat 32 j)
      = (if a < b then a else b, BitVec.ofNat 32 (if a < b ∨ a = b ∧ i < j then i else j)) := by
  have hc : IntOp.cmpi .slt (BitVec.ofNat 32 i) (BitVec.ofNat 32 j) = BitVec.ofBool (decide (i < j)) := by
    rw [IntOp.cmpi]; simp only [BitVec.slt]
    rw [toInt_ofNat_small _ hi, toInt_ofNat_small _ hj]; simp
  show (Scalar.select (IntOp.ori (BitVec.ofBool (decide (a < b))) (BitVec.ofBool (decide (a ≠ a)))) a b,
    Scalar.select (IntOp.ori (IntOp.ori (BitVec.ofBool (decide (a < b))) (BitVec.ofBool (decide (a ≠ a))))
      (IntOp.andi (BitVec.ofBool (decide (a = b))) (IntOp.cmpi .slt (BitVec.ofNat 32 i) (BitVec.ofNat 32 j))))
      (BitVec.ofNat 32 i) (BitVec.ofNat 32 j)) = _
  rw [hc]
  by_cases h1 : a < b <;> by_cases h2 : a = b <;> by_cases h3 : i < j <;>
    simp [h1, h2, h3, IntOp.ori, IntOp.andi, Scalar.select]

theorem lex_trans {a b c : EReal} {i j k : Nat} (h : a < b ∨ a = b ∧ i ≤ j) (h' : b < c ∨ b = c ∧ j ≤ k) :
    a < c ∨ a = c ∧ i ≤ k := by
  rcases h with h | ⟨rfl, h⟩ <;> rcases h' with h' | ⟨rfl, h'⟩
  · exact .inl (h.trans h')
  · exact .inl h
  · exact .inl h'
  · exact .inr ⟨rfl, h.trans h'⟩

/-- What one step keeps comes before both pairs. -/
theorem step_le (a b : EReal) (i j : Nat) :
    ((if a < b then a else b) < a ∨ (if a < b then a else b) = a ∧ (if a < b ∨ a = b ∧ i < j then i else j) ≤ i)
    ∧ ((if a < b then a else b) < b ∨ (if a < b then a else b) = b ∧ (if a < b ∨ a = b ∧ i < j then i else j) ≤ j) := by
  rcases lt_trichotomy a b with h | rfl | h
  · simp [h]
  · by_cases hij : i < j
    · simp [hij, hij.le]
    · simp [hij, not_lt.1 hij]
  · simp [h, not_lt.2 h.le, h.ne']

/-- The fold over any list of entries of a row: where it starts from the pair (`v`, `i`), it ends at a pair that is the start or an
    entry of the list, and that comes before every one of them in the order "smaller value, else smaller index". -/
theorem fold {ι : Type} (val : ι → EReal) (idx : ι → Nat) (hidx : ∀ x, idx x < 2 ^ 31) :
    ∀ (L : List ι) (v : EReal) (i : Nat), i < 2 ^ 31 → ∃ v' i',
      L.foldl (fun r x => reducer_argmin_f32_i32 (F := Ideal) r (val x, BitVec.ofNat 32 (idx x))) (v, BitVec.ofNat 32 i)
        = (v', BitVec.ofNat 32 i')
      ∧ i' < 2 ^ 31
      ∧ ((v' = v ∧ i' = i) ∨ ∃ x ∈ L, v' = val x ∧ i' = idx x)
      ∧ (v' < v ∨ v' = v ∧ i' ≤ i)
      ∧ ∀ x ∈ L, v' < val x ∨ v' = val x ∧ i' ≤ idx x
  | [], v, i, hi => ⟨v, i, rfl, hi, .inl ⟨rfl, rfl⟩, .inr ⟨rfl, le_rfl⟩, fun _ h => absurd h (by simp)⟩
  | x :: L, v, i, hi => by
    obtain ⟨v', i', he, hi', hmem, hle, hall⟩ := fold val idx hidx L (if v < val x then v else val x)
      (if v < val x ∨ v = val x ∧ i < idx x then i else idx x) (by split; exacts [hi, hidx x])
    refine ⟨v', i', ?_, hi', ?_, ?_, ?_⟩
    · rw [List.foldl_cons, step _ _ hi (hidx x), he]
    · rcases hmem with ⟨hv, hi⟩ | ⟨y, hy, hv, hi⟩
      · by_cases h1 : v < val x
        · rw [if_pos h1] at hv; rw [if_pos (.inl h1)] at hi; exact .inl ⟨hv, hi⟩
        · rw [if_neg h1] at hv
          by_cases h2 : v = val x ∧ i < idx x
          · rw [if_pos (.inr h2)] at hi; exact .inl ⟨hv.trans h2.1.symm, hi⟩
          · rw [if_neg (not_or.2 ⟨h1, h2⟩)] at hi; exact .inr ⟨x, by simp, hv, hi⟩
      · exact .inr ⟨y, by simp [hy], hv, hi⟩
    · exact lex_trans hle (step_le v (val x) i (idx x)).1
    · intro y hy
      rcases List.mem_cons.1 hy with rfl | hy
      · exact lex_trans hle (step_le v (val y) i (idx y)).2
      · exact hall y hy

/-- The reference's argmin at a row: the first index of the least entry. -/
theorem argmin (x : FVec Ideal S16384x8192 .f32) (hr : S16384x8192.ReducesTo [1] S16384) (hu : 0 < S_.numel) (r : Fin 16384) :
    (Host.argReduce reducer_argmin_f32_i32 x (iotaInDim S16384x8192 32 1) (constant S_ .f32 0x7F800000#32) (constantI S_ 32 0#32)
      hr hu (ix1 r)).2 = BitVec.ofNat 32 (first fun l => x (ix2 r l)) := by
  rw [Ideal.argReduce_eq_reduce2]
  set d : Fin 8192 → EReal := fun l => x (ix2 r l) with hd
  have hdrop : ∀ i : S16384x8192.Idx, hr.drop i = ix1 r ↔ i = ix2 r (i 1) := fun i => by
    have hv : (hr.drop i 0 : Nat) = i 0 := Shape.ReducesTo.drop_apply_val hr i 0
    constructor
    · intro h
      have : (i 0 : Nat) = r := by rw [← hv, h]; rfl
      rw [eq_ix2 i]
      exact (ix2_inj ..).2 ⟨Fin.ext this, rfl⟩
    · intro h
      rw [eq_ix1 (hr.drop i)]
      refine congrArg ix1 (Fin.ext (hv.trans ?_))
      rw [h]; rfl
  have hcol : ∀ i : S16384x8192.Idx, (i 1 : Nat) < 8192 := fun i => (i 1).isLt
  obtain ⟨v', i', he, -, hmem, -, hall⟩ := fold
    (fun n => x (S16384x8192.rowMajor.symm n)) (fun n => (S16384x8192.rowMajor.symm n 1).val)
    (fun n => lt_trans (hcol _) (by norm_num))
    ((List.finRange S16384x8192.numel).filter fun n => hr.drop (S16384x8192.rowMajor.symm n) = ix1 r) ⊤ 0 (by norm_num)
  have hfold : Host.reduce2 reducer_argmin_f32_i32 x (iotaInDim S16384x8192 32 1) (constant S_ .f32 0x7F800000#32)
      (constantI S_ 32 0#32) hr hu (ix1 r) = (v', BitVec.ofNat 32 i') := by
    rw [← he, ← ofBits_inf]
    rfl
  rw [hfold]
  have hall' : ∀ l : Fin 8192, v' < d l ∨ v' = d l ∧ i' ≤ l := fun l => by
    have := hall (S16384x8192.rowMajor (ix2 r l)) (List.mem_filter.2 ⟨List.mem_finRange _, by
      rw [Equiv.symm_apply_apply]; exact decide_eq_true ((hdrop _).2 rfl)⟩)
    simp only [Equiv.symm_apply_apply] at this
    exact this
  have hk : ∃ k : Fin 8192, d k = v' ∧ i' = k := by
    rcases hmem with ⟨hv, hi⟩ | ⟨n, hn, hv, hi⟩
    · refine ⟨0, ?_, hi⟩
      rcases hall' 0 with h | h
      · exact absurd (hv ▸ h) not_top_lt
      · exact h.1.symm
    · have h := (hdrop _).1 (of_decide_eq_true (List.mem_filter.1 hn).2)
      refine ⟨S16384x8192.rowMajor.symm n 1, ?_, hi⟩
      rw [hv]
      exact congrArg x h.symm
  obtain ⟨k, hdk, rfl⟩ := hk
  have hfirst : First d k := fun l => by rw [hdk]; exact hall' l
  rw [hfirst.unique (first_spec d)]

/-- The reference's matrix of distances. -/
def distances (X : FVec Ideal S16384x32 .f32) (W : FVec Ideal S8192x32 .f32) : FVec Ideal S16384x8192 .f32 :=
  addf (subf
      (broadcastInDim S16384x8192 ![0, 1] bcast_S16384x1_S16384x8192_0_1
        (broadcastInDim S16384x1 ![0] bcast_S16384_S16384x1_0
          (Host.reduceAdd (mulf X X) (constant S_ .f32 0x00000000#32) reducesTo_S16384x32_S16384_d1 h_S_)))
      (Host.dotGeneral dot_S16384x32_S32x8192_S16384x8192_1_0_0_1_n_n none
        (mulf (broadcastInDim S16384x32 ![] bcast_S_S16384x32 (constant S_ .f32 0x40000000#32)) X)
        (transpose S32x8192 [1, 0] W transposes_S8192x32_S32x8192_1_0)))
    (broadcastInDim S16384x8192 ![0, 1] bcast_S1x8192_S16384x8192_0_1
      (transpose S1x8192 [1, 0] (broadcastInDim S8192x1 ![0] bcast_S8192_S8192x1_0
        (Host.reduceAdd (mulf W W) (constant S_ .f32 0x00000000#32) reducesTo_S8192x32_S8192_d1 h_S_))
        transposes_S8192x1_S1x8192_1_0))

theorem distances_apply (X : FVec Ideal S16384x32 .f32) (W : FVec Ideal S8192x32 .f32) (t : Fin 16384) (l : Fin 8192) :
    distances X W (ix2 t l) = sqDist (fun t k => X (ix2 t k)) (fun l k => W (ix2 l k)) t l := by
  pointwise [distances, sqDist]

theorem argmin_at (x : FVec Ideal S16384x8192 .f32) (j : S16384.Idx) :
  (Host.argReduce reducer_argmin_f32_i32 x (iotaInDim S16384x8192 32 1) (constant S_ .f32 0x7F800000#32)
    (constantI S_ 32 0#32) reducesTo_S16384x8192_S16384_d1 h_S_ j).2 = BitVec.ofNat 32 (first fun l => x (ix2 (j 0) l)) := by
  obtain ⟨r, rfl⟩ : ∃ r : Fin 16384, j = ix1 r := ⟨j 0, eq_ix1 j⟩
  exact argmin x reducesTo_S16384x8192_S16384_d1 h_S_ r

/-- The reference's argmin, as an array. -/
theorem argmin_all (x : FVec Ideal S16384x8192 .f32) :
    (fun j => (Host.argReduce reducer_argmin_f32_i32 x (iotaInDim S16384x8192 32 1) (constant S_ .f32 0x7F800000#32)
      (constantI S_ 32 0#32) reducesTo_S16384x8192_S16384_d1 h_S_ j).2)
      = fun j => BitVec.ofNat 32 (first fun l => x (ix2 (j 0) l)) :=
  funext fun j => argmin_at x j

/-- The reference's indices are the first rows of the codebook at the least distance. -/
theorem index_eq (X : FVec Ideal S16384x32 .f32) (W : FVec Ideal S8192x32 .f32) :
    (fun j => (Host.argReduce reducer_argmin_f32_i32 (distances X W) (iotaInDim S16384x8192 32 1) (constant S_ .f32 0x7F800000#32)
      (constantI S_ 32 0#32) reducesTo_S16384x8192_S16384_d1 h_S_ j).2)
     = fun i =>
      BitVec.ofNat 32 (first (sqDist (fun t k => X (ix2 t k)) (fun l k => W (ix2 l k)) (i 0))) :=
  (argmin_all (distances X W)).trans
    (funext fun i => congrArg (fun d => BitVec.ofNat 32 (first d)) (funext fun l => distances_apply X W (i 0) l))

end Cert.Proof.Reference

end
-- ==== Proof.Algebraic.lean ====
module

public import proofs.«01_k».proof.Proof.Entry
public import proofs.«01_k».proof.Proof.Reference

/-!
# The kernel's results are the reference's

Both programs gather the codebook's rows at one index per token, in the same operations; so it suffices that the
indices agree.
-/

@[expose] public section

set_option maxRecDepth 16384

noncomputable section

namespace Cert.Proof.Algebraic

open Idealize.ShloMosaic Idealize.ShloMosaic.TcCoe Idealize.SL.Sem

/-- Per token, the first row of the codebook at the least distance. -/
def best (X : FVec Ideal KernelIdeal.S16384x32 .f32) (W : FVec Ideal KernelIdeal.S8192x32 .f32) :
    IVec KernelIdeal.S16384 32 :=
  fun i => BitVec.ofNat 32 (ArgMin.first
    (ArgMin.sqDist (fun t k => X (ix2 t k)) (fun l k => W (ix2 l k)) (i 0)))

/-- The indices the kernel's program gathers at are the reference's. -/
theorem index_agrees (m : (ℓ : Loc KernelIdeal.nD KernelIdeal.τ KernelIdeal.sig) → Buf (Elt Ideal) ℓ)
    (c : Dev KernelIdeal.nD) :
    (fun i => shapeCast KernelIdeal.main_v11.ty.shape (fun i => shapeCast KernelIdeal.main_v10.ty.shape
        (extractStridedSlice KernelIdeal.S64x1x256 ![0, 0, 0]
          (Pipeline.withArrays (KernelIdeal.cfgs 0).spec c (KernelIdeal.Gen.V0 m c)
            (fun w => (KernelIdeal.Gen.dats m 0 c).arrAt w (KernelIdeal.cfgs 0).N) (Proc.devRef .tc KernelIdeal.main_v8))
          KernelIdeal.Gen.slices_S64x8x256_S64x1x256_0_0_0)
        KernelIdeal.Gen.shapeCasts_S64x1x256_S64x256 i) KernelIdeal.Gen.shapeCasts_S64x256_S16384 i)
      = best (Entry.X m c) (m ((c : Thread KernelIdeal.nD KernelIdeal.τ).loc KernelIdeal.main_arg1)) := by
  rw [Tail.left_out]
  exact (Tail.flatten _ _ _ _).trans (Entry.tokens_entry m c)

set_option maxHeartbeats 1600000 in
theorem algebraic : Cert.algebraic_KernelIdeal_ReferenceIdeal := by
  pair_intro
  · run_from Cert.KernelIdeal.Gen.run_main m g
    exact KernelIdeal.Gen.W_main_arg0 m _ c
  · hlo_run
    · generalize hA : @Host.argReduce Ideal _ ReferenceIdeal.S16384x8192 .f32 [1] ReferenceIdeal.S16384
          ReferenceIdeal.S_ (BitVec 32) ReferenceIdeal.reducer_argmin_f32_i32 = A
      revert A; refine id ?_; intro A hA
      have hr := Reference.index_eq
        (fun i => shapeCast ReferenceIdeal.main_v0.ty.shape (m (c.tc.loc KernelIdeal.main_arg0))
          ReferenceIdeal.Gen.shapeCasts_S16x1024x32_S16384x32 i)
        (m (c.tc.loc KernelIdeal.main_arg1))
      rw [hA] at hr
      unfold Reference.distances at hr
      unfold Pipeline.afterTail₀
      simp only [List.flatten_cons, List.flatten_nil, List.append_nil, List.cons_append, List.nil_append]
      after_results_simp
      simp -implicitDefEqProofs only [StableHlo.TRef.ofBuf_toBuf, StableHlo.TRef.toBuf, StableHlo.TRef.ofBuf, cast_eq]
      clear hA
      generalize hB : A _ _ _ _ _ _ = B
      have hI : (fun j => (B j).2) = best (Entry.X m c) (m (c.tc.loc KernelIdeal.main_arg1)) := by
        rw [← hB]; exact hr
      clear hB hr
      revert B; refine id ?_; intro B hI
      rw [Tail.left_codebook, index_agrees m c, hI]
      generalize best _ _ = I
      revert I; refine id ?_; intro I
      rfl
    · generalize hA : @Host.argReduce Ideal _ ReferenceIdeal.S16384x8192 .f32 [1] ReferenceIdeal.S16384
          ReferenceIdeal.S_ (BitVec 32) ReferenceIdeal.reducer_argmin_f32_i32 = A
      revert A; refine id ?_; intro A hA
      have hr := Reference.index_eq
        (fun i => shapeCast ReferenceIdeal.main_v0.ty.shape (m (c.tc.loc KernelIdeal.main_arg0))
          ReferenceIdeal.Gen.shapeCasts_S16x1024x32_S16384x32 i)
        (m (c.tc.loc KernelIdeal.main_arg1))
      rw [hA] at hr
      unfold Reference.distances at hr
      unfold Pipeline.afterTail₀
      simp only [List.flatten_cons, List.flatten_nil, List.append_nil, List.cons_append, List.nil_append]
      after_results_simp
      simp -implicitDefEqProofs only [StableHlo.TRef.ofBuf_toBuf, StableHlo.TRef.toBuf, StableHlo.TRef.ofBuf, cast_eq]
      clear hA
      generalize hB : A _ _ _ _ _ _ = B
      have hI : (fun j => (B j).2) = best (Entry.X m c) (m (c.tc.loc KernelIdeal.main_arg1)) := by
        rw [← hB]; exact hr
      clear hB hr
      revert B; refine id ?_; intro B hI
      rw [index_agrees m c, hI]
      rfl

end Cert.Proof.Algebraic

end
-- ==== Proof.ReferenceRun.lean ====
module

public import proofs.«01_k».proof.Defs
public import proofs.«01_k».proof.Proof.Gen.ReferenceIdeal
public import Idealize.ShloMosaic.Lib.Claim

/-!
# The reference runs and leaves its arguments
-/

@[expose] public section

set_option maxRecDepth 16384

noncomputable section

namespace Cert.Proof.ReferenceRun

open Idealize.ShloMosaic Idealize.ShloMosaic.TcCoe Idealize.SL.Sem

set_option maxHeartbeats 1600000 in
/-- The reference is host operations alone, none of which writes an argument. -/
theorem arguments (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal)))
      ⟨m, fun _ => 0, g⟩ (fun r => ∀ c : Dev Cert.ReferenceIdeal.nD,
        r.2.mem ((c.tc : Thread Cert.ReferenceIdeal.nD Cert.ReferenceIdeal.τ).loc Cert.ReferenceIdeal.main_arg0)
            = m ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1)
            = m ((c.tc : Thread Cert.ReferenceIdeal.nD Cert.ReferenceIdeal.τ).loc Cert.ReferenceIdeal.main_arg1)) := by
  hlo_run

/-- It has no semaphore, so it ends quiescent. -/
theorem quiescent : Cert.quiescent_ReferenceIdeal := fun m g _ =>
  (θ_run Cert.ReferenceIdeal.defs _ _).mono
    (fun r h => ⟨h, Idealize.ShloMosaic.sem_eq_zero_of_no_sems (by decide) r.2⟩) (arguments m g)

end Cert.Proof.ReferenceRun

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Algebraic
public import proofs.«01_k».proof.Proof.ReferenceRun
public import Idealize.ShloMosaic.Lib.Claim
public import Idealize.ShloMosaic.Adequacy
public import Idealize.ShloMosaic.Init

@[expose] public section

noncomputable section

namespace Cert.Proof

open Idealize.ShloMosaic Idealize.SL.Sem

theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ, ReferenceRun.quiescent,
  trivial, Algebraic.algebraic⟩

end Cert.Proof

end
